-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![4096, 4096]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 8192]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![4096, 4096]⟩ ⟨2, ![4096, 8192]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => true
  | ⟨1, _⟩ => true
  | _ => false

abbrev sig : RefSig :=
  (ofTc nBuf bufTy 1 2 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_8 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32_8 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v14 : BitVec 32 := Scalar.muli v5 c1_i32_9
  let v15 : BitVec 32 := Scalar.addi v13 v14
  v15.toNat
-- ==== ReferenceIdeal.lean ====
abbrev S4096x4096 : Shape := ⟨2, ![4096, 4096]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Exchange.lean ====
/-
  The exchange between mesh neighbours, as a protocol of counters.

  The four devices form a 2 x 2 mesh, device `c` at `(c / 2, c % 2)`. A device exchanges its partial product with the one
  device in its mesh column, its MATE, two places further on. Three semaphores of a device take part:

  * `gate`, the barrier semaphore: the mate adds one unit and with it lends the receiving buffer `main_v3` it owns;
  * `out`, the copy's source semaphore: the device's own copy adds `bulk` units once `main_v2` has been read;
  * `into`, the copy's target semaphore: the mate's copy adds `bulk` units once `main_v3` has been written.

  Each is credited once and waited for once. This module fixes the schedule, who owes what at launch, the order of the
  waits, and the ghost state every device starts with.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mate -/

/-- The other device of the mesh column: two places on, around the four. -/
def mate (c : Dev nD) : Dev nD := ⟨(c.val + 2) % 4, Nat.mod_lt _ (by decide)⟩

/-- The mate's mate is the device itself. -/
theorem mate_mate : ∀ c : Dev nD, mate (mate c) = c := by decide

/-- Exchanging every device with its mate, as a permutation of the mesh. -/
def mates : Dev nD ≃ Dev nD := ⟨mate, mate, mate_mate, mate_mate⟩

/-- The device the barrier signal addresses is the mate. -/
theorem signal_dev : ∀ c : Dev nD, (⟨k0_dev1 c, k0_dev1_lt c⟩ : Dev nD) = mate c := by decide +kernel

/-- The device the copy addresses is the mate. -/
theorem copy_dev : ∀ c : Dev nD, (⟨k0_dev2 c, k0_dev2_lt c⟩ : Dev nD) = mate c := by decide +kernel

/-! ## The three ports of a device and their counters -/

/-- The three semaphores of a device that the exchange uses. -/
inductive Port
  | gate
  | out
  | into
  deriving DecidableEq

/-- The semaphore of a port. -/
abbrev Port.sem : Port → SemLoc sig
  | .gate => .reg 0
  | .out => .dma 0
  | .into => .dma 1

/-- The port of a semaphore: the program has these three semaphores and no other. -/
def portOf : SemLoc sig → Port
  | .reg _ => .gate
  | .dma s => if s = 0 then .out else .into

/-- Reading a port off its own semaphore. -/
theorem portOf_sem : ∀ p : Port, portOf p.sem = p
  | .gate => rfl
  | .out => rfl
  | .into => rfl

theorem sem_inj {p q : Port} (h : p.sem = q.sem) : p = q := by
  rw [← portOf_sem p, h, portOf_sem q]

/-- The counter of port `p` on device `c`. -/
abbrev cell (c : Dev nD) (p : Port) : GSem nD τ sig := ((c : Thread nD τ), p.sem)

/-- Two counters are one only if both device and port agree. -/
theorem cell_inj {c d : Dev nD} {p q : Port} (h : cell c p = cell d q) : c = d ∧ p = q :=
  ⟨congrArg (fun g : GSem nD τ sig => g.1.1) h, sem_inj (congrArg Prod.snd h)⟩

/-- The units a copy of the whole partial product adds to a DMA semaphore. -/
abbrev bulk : ℕ := (Memref.whole main_v3 : Memref sig .tc .hbm S4096x4096 .bf16).view.dmaCredit

theorem bulk_pos : 0 < bulk := View.dmaCredit_pos _ (by decide)

/-- The units one credit of a port is worth. -/
def Port.units : Port → ℕ
  | .gate => 1
  | _ => bulk

theorem Port.units_pos : ∀ p : Port, 0 < p.units
  | .gate => Nat.one_pos
  | .out => bulk_pos
  | .into => bulk_pos

/-! ## Ghost state -/

/-- Two copies of the rounds algebra: the pipeline library's, and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## Buffers and what they hold -/

/-- Device `c`'s whole buffer `b`, held outright at contents `f`. -/
abbrev holds (c : Dev nD) (b : Ref sig .tc) (f : Buf (Elt F) ((c : Thread nD τ).loc b)) : sProp 𝕄 :=
  ((c : Thread nD τ).loc b) ↦{fullShare} f

/-- Device `c`'s buffers at launch. -/
abbrev V₀ (c : Dev nD) : Valuation τ sig (Elt F) := fun b => m ((c : Dev nD), b)

/-- Device `c`'s buffers once the local product has been formed. -/
abbrev V₁ (c : Dev nD) : Valuation τ sig (Elt F) := StableHlo.after hostOps0 (V₀ m c)

/-- The partial product device `c` formed: what it sends. -/
def part (c : Dev nD) : Buf (Elt F) ((c : Thread nD τ).loc main_v2) := V₁ m c main_v2

/-- What the copy leaves in the receiving buffer of `c`: its mate's partial product. -/
def arrived (c : Dev nD) : Buf (Elt F) ((c : Thread nD τ).loc main_v3) := part m (mate c)

/-- A whole copy of `main_v2` into `main_v3` leaves the source's contents there, whatever was in `main_v3` before. -/
theorem copied (c d : Dev nD) (old : Buf (Elt F) ((d : Thread nD τ).loc main_v3))
    (new : Buf (Elt F) ((c : Thread nD τ).loc main_v2)) :
    (Memref.whole main_v3 : Memref sig .tc .hbm S4096x4096 .bf16).view.write (Elt F) old
      ((Memref.whole main_v2 : Memref sig .tc .hbm S4096x4096 .bf16).view.read (Elt F) new) Finset.univ = new := by
  show (View.whole main_v3).write (Elt F) old ((View.whole main_v2).read (Elt F) new) Finset.univ = new
  rw [View.read_whole]
  exact View.write_whole_univ _ _ _

/-! ## The schedule -/

/-- What a credit of port `p` hands to device `c`, its owner. -/
def cargo (c : Dev nD) : Port → sProp 𝕄
  | .gate => iprop((∃ f, holds (mate c) main_v3 f) ∗ reached EX (cell (mate c) .into) 0)
  | .out => holds c main_v2 (part m c)
  | .into => holds c main_v3 (arrived m c)

/-- One duty, in round 0, on every counter of a TensorCore; its size and its cargo are its port's. -/
def plan : Rounds.Schedule (GSem nD τ sig) Unit 𝕄 where
  duties g r := if g.1.2 = .tc ∧ r = 0 then {()} else ∅
  unitless _ := False
  amount g _ _ := (portOf g.2).units
  payload g _ _ := cargo m g.1.1 (portOf g.2)
  amount_pos g _ _ _ := Port.units_pos _

instance plan_storable (g : GSem nD τ sig) (r : ℕ) (d : Unit) :
    BI.Storable (upEmb : UEmb _ 𝕄) ((plan (F := F) m).payload g r d) := by
  show BI.Storable upEmb (cargo m g.1.1 (portOf g.2))
  cases portOf g.2 <;> unfold cargo <;> infer_instance

section Reading

variable (c : Dev nD) (p : Port)

theorem plan_duties : (plan (F := F) m).duties (cell c p) 0 = {()} := by
  show (if (cell c p).1.2 = .tc ∧ (0 : ℕ) = 0 then {()} else ∅ : Finset Unit) = {()}
  exact if_pos ⟨rfl, rfl⟩

theorem plan_owed : () ∈ (plan (F := F) m).duties (cell c p) 0 := by
  rw [plan_duties]; exact Finset.mem_singleton_self _

/-- After round 0 a counter is credited no more. -/
theorem plan_over : ∀ r, 1 ≤ r → (plan (F := F) m).duties (cell c p) r = ∅ := fun r hr => by
  show (if (cell c p).1.2 = .tc ∧ r = 0 then {()} else ∅ : Finset Unit) = ∅
  exact if_neg fun h => by have := h.2; omega

theorem plan_amount (u : Unit) : (plan (F := F) m).amount (cell c p) 0 u = p.units := by
  show (portOf p.sem).units = p.units
  rw [portOf_sem]

theorem plan_payload (u : Unit) : (plan (F := F) m).payload (cell c p) 0 u = cargo m c p := by
  show cargo m c (portOf p.sem) = cargo m c p
  rw [portOf_sem]

/-- A wait for one credit of a port takes all that its round brings. -/
theorem plan_expect : 0 + p.units = (plan (F := F) m).expect (cell c p) 0 := by
  unfold Schedule.expect Schedule.amountOf
  rw [plan_duties, Finset.sum_singleton, plan_amount, Nat.zero_add]

/-- What a wait for the whole round hands over: the port's cargo. -/
theorem plan_rest :
    bigSep ((plan (F := F) m).duties (cell c p) 0 \ ∅) (fun u => (plan (F := F) m).payload (cell c p) 0 u) = cargo m c p := by
  rw [Finset.sdiff_empty, plan_duties, bigSep_singleton, plan_payload]

/-- A counter whose round is over can be taken out of the protocol, at zero. -/
theorem retire (κ : ℕ) :
    iprop(cellInv EX (plan m) κ (cell c p) ∗ atPos EX (cell c p) (0 + 1) ∅ 0) ⊢ (|={Set.univ}=> semVal (cell c p) 0 : sProp 𝕄) :=
  Rounds.cell_close EX (plan m) (Set.mem_univ κ) id (plan_over m c p)

end Reading

/-! ## Debts at launch, and the order of the waits -/

/-- Every device owes its mate one unit on the gate and one whole copy. -/
def debt (c : Dev nD) : CellTallies nD τ sig Unit :=
  tallyAt (cell (mate c) .into) () bulk + tallyAt (cell (mate c) .gate) () 1

/-- Every counter of a TensorCore is a level's. -/
def L (g : GSem nD τ sig) : Finset Unit := if g.1.2 = .tc then {()} else ∅

/-- A port's level: a device may wait on a port while it owes on higher ones only. -/
def Port.level : Port → ℕ
  | .out => 0
  | .gate => 1
  | .into => 2

def lv (g : GSem nD τ sig) (_ : Unit) : ℕ := (portOf g.2).level

theorem L_of_ne (g : GSem nD τ sig) (h : g.1.2 ≠ .tc) : L g = ∅ := if_neg h

theorem L_cell (c : Dev nD) (p : Port) (u : Unit) : u ∈ L (cell c p) := by
  rw [show L (cell c p) = {()} from if_pos rfl]; exact Finset.mem_singleton_self _

theorem lv_cell (c : Dev nD) (p : Port) (u : Unit) : lv (cell c p) u = p.level := by
  show (portOf p.sem).level = p.level
  rw [portOf_sem]

/-- A tally at one counter is positive at that counter only. -/
theorem of_tally_pos {g h : GSem nD τ sig} {k : ℕ} {u : Unit} (hp : 0 < tallyAt g () k h u) : h = g := by
  rw [tallyAt_apply] at hp
  by_cases e : h = g ∧ u = ()
  · exact e.1
  · rw [if_neg e] at hp; exact absurd hp (Nat.lt_irrefl 0)

/-- A device owes on its mate's `into` and `gate` counters and on no other. -/
theorem of_debt_pos {c : Dev nD} {g : GSem nD τ sig} {u : Unit} (h : 0 < debt c g u) :
    g = cell (mate c) .into ∨ g = cell (mate c) .gate := by
  unfold debt at h
  rw [Pi.add_apply, Finsupp.add_apply] at h
  rcases Nat.add_pos_iff_pos_or_pos.mp h with h | h
  · exact .inl (of_tally_pos h)
  · exact .inr (of_tally_pos h)

/-- Waiting on the gate while the copy to the mate is still owed is allowed: `into` lies above `gate`. -/
theorem may_wait_gate (c : Dev nD) :
    (levAts L lv : sProp 𝕄) ⊢ MayWait (c : Thread nD τ) (Port.gate).sem () (tallyAt (cell (mate c) .into) () bulk) :=
  MayOwe.of_cut (L := L) (lev := lv) 1
    (fun q hq => by rw [Finset.mem_singleton.mp hq]; exact L_cell c .gate ())
    (fun g u hg => by rw [of_tally_pos hg]; exact L_cell (mate c) .into u)
    (fun q hq => by rw [Finset.mem_singleton.mp hq]; exact (lv_cell c .gate ()).le)
    (fun g u hg => by rw [of_tally_pos hg]; exact (lv_cell (mate c) .into u).symm ▸ (by decide : 1 < Port.level .into))

/-! ## What a device carries to the kernel -/

/-- The shared record: every counter's invariant, under one choice of names, and that round 0 of every gate is open. -/
def book (κ : GSem nD τ sig → ℕ) : sProp 𝕄 :=
  iprop((bigSep Finset.univ fun c : Dev nD => iprop(cellInv EX (plan m) (κ (cell c .gate)) (cell c .gate)
      ∗ cellInv EX (plan m) (κ (cell c .out)) (cell c .out) ∗ cellInv EX (plan m) (κ (cell c .into)) (cell c .into)))
    ∗ bigSep Finset.univ fun c : Dev nD => reached EX (cell c .gate) 0)

instance book_persistent (κ : GSem nD τ sig → ℕ) : BI.Persistent (book m κ) := by unfold book; infer_instance

/-- The page of the record about device `c`. -/
theorem book_page (κ : GSem nD τ sig → ℕ) (c : Dev nD) :
    book m κ ⊢ iprop((cellInv EX (plan m) (κ (cell c .gate)) (cell c .gate)
      ∗ cellInv EX (plan m) (κ (cell c .out)) (cell c .out) ∗ cellInv EX (plan m) (κ (cell c .into)) (cell c .into))
      ∗ reached EX (cell c .gate) 0) := by
  unfold book
  exact BIClass.sep_mono (bigSep_elim (Finset.mem_univ c)) (bigSep_elim (Finset.mem_univ c))

/-- The three duties device `c` discharges: the signal to its mate, and both ends of its copy. -/
def duties (c : Dev nD) : sProp 𝕄 :=
  iprop(dutyTok EX (cell (mate c) .gate) 0 () ∗ dutyTok EX (cell c .out) 0 () ∗ dutyTok EX (cell (mate c) .into) 0 ())

/-- The two credits device `c` waits for without making them itself. -/
def credits (c : Dev nD) : sProp 𝕄 :=
  iprop(cred (tallyAt (cell c .gate) () 1) ∗ cred (tallyAt (cell c .into) () bulk))

/-- Device `c`'s stake from launch on: the record, its place at its gate, the rights to put its two DMA counters into the
    protocol, its duties and its credits. -/
def stake (c : Dev nD) : sProp 𝕄 :=
  iprop((∃ κ, book m κ) ∗ (atPos EX (cell c .gate) 0 ∅ 0 ∗ openTok EX (cell c .out) ∗ openTok EX (cell c .into)) ∗ duties c ∗ credits c)

/-- The same inside the kernel, where both DMA counters have been put in. -/
def seated (c : Dev nD) : sProp 𝕄 :=
  iprop((∃ κ, book m κ) ∗ (atPos EX (cell c .gate) 0 ∅ 0 ∗ atPos EX (cell c .out) 0 ∅ 0 ∗ atPos EX (cell c .into) 0 ∅ 0)
    ∗ (reached EX (cell c .out) 0 ∗ reached EX (cell c .into) 0) ∗ duties c ∗ credits c ∗ levAts L lv)

end Cert.KernelIdeal.Exchange

end
-- ==== Proof.Body.lean ====
/-
  The kernel's body, run on one device.

  Signal the mate, wait for its signal, copy `main_v2` into the mate's `main_v3`, wait for both ends of the exchange. The
  receiving buffer leaves with the signal and comes back, rewritten, with the mate's copy; `main_v2` leaves with the
  device's own copy and comes back unchanged once it has been read. All three counters end at zero.
-/
module

public import proofs.«01_k».proof.Proof.Exchange
public import proofs.«01_k».proof.Proof.Gen.KernelIdeal.Points

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Holding the elements a whole-buffer view of an HBM buffer covers is holding the buffer. -/
theorem holds_view (c : Dev nD) (b : Ref sig .tc) (f : Buf (Elt F) ((c : Thread nD τ).loc b)) :
    (((Memref.whole b).view.loc (c : Thread nD τ)) ↦[(Memref.whole b).view.set]{fullShare} f : sProp 𝕄) = holds c b f := by
  rw [show (Memref.whole b).view.set = Finset.univ from View.set_whole _]

/-- The copy of `main_v2` on `c` into `main_v3` of its mate, the two buffers held: it discharges the duty on `c`'s own
    `out` port and the one on the mate's `into` port, after which `c` owes nothing and has the credit to wait at `out`. The
    target is any device `d` that is the mate, as the program computes it. -/
theorem copy_over (c : Dev nD) {d : Dev nD} (hd : d = mate c) (κ₁ κ₂ : ℕ) (old : Buf (Elt F) ((mate c : Thread nD τ).loc main_v3))
    (W : Waits sig Unit)
    {hsrc : (Memref.whole main_v2 : Memref sig .tc .hbm S4096x4096 .bf16).view.WordExact}
    {hdst : (Memref.whole main_v3 : Memref sig .tc .hbm S4096x4096 .bf16).view.WordExact}
    {hsc : (Memref.whole main_v3 : Memref sig (Dev.tc d : Thread nD τ).2.kind .hbm S4096x4096 .bf16).view.ref.isScScratch = false}
    {hsem : DmaTarget.Typed .hbm (Port.into).sem (.remote (Dev.tc d : Thread nD τ) (Memref.whole main_v3) (Port.out).sem hsc)}
    {k : PUnit → Prog (TpuEff nD τ sig (Elt F) Λ₀ .tc) PUnit} {Q : PUnit → sProp 𝕄} :
    iprop((cellInv EX (plan m) κ₁ (cell c .out) ∗ cellInv EX (plan m) κ₂ (cell (mate c) .into))
        ∗ (reached EX (cell c .out) 0 ∗ reached EX (cell (mate c) .into) 0)
        ∗ (dutyTok EX (cell c .out) 0 () ∗ dutyTok EX (cell (mate c) .into) 0 ())
        ∗ (holds c main_v2 (part m c) ∗ holds (mate c) main_v3 old)
        ∗ owes (c : Thread nD τ) (tallyAt (cell (mate c) .into) () bulk) W)
      ⊢ iprop(((cred (tallyAt (cell c .out) () bulk) ∗ owes (c : Thread nD τ) (0 : CellTallies nD τ sig Unit) W)
            -∗ wp frame (wpE (defs₀ (F := F)) 𝒱₀ c none) Set.univ (k ⟨⟩) Q)
          -∗ wp frame (wpE (defs₀ (F := F)) 𝒱₀ c none) Set.univ
              (.op (.enqueueDma (Memref.whole main_v2) (.remote (Dev.tc d : Thread nD τ) (Memref.whole main_v3) (Port.out).sem hsc)
                (Port.into).sem hsrc hdst hsem) k) Q) := by
  subst hd
  iintro ⟨⟨#H1, #H2⟩, ⟨#Hr1, #Hr2⟩, ⟨Hd1, Hd2⟩, ⟨Hs, Ht⟩, HO⟩
  iapply (Rounds.wp_send_pointsTo 𝒱₀ EX (plan m) (c : Thread nD τ) none (c' := (mate c : Thread nD τ))
      (src := Memref.whole main_v2) (dst := Memref.whole main_v3) (sS := (Port.out).sem) (sem := (Port.into).sem) (q := fullShare)
      (fs := part m c) (fd := old) (κ₁ := κ₁) (κ₂ := κ₂) (r₁ := 0) (r₂ := 0) (d₁ := ()) (d₂ := ())
      (plan_owed m c .out) (plan_owed m (mate c) .into) () () bulk rfl (plan_amount m c .out ()) (plan_amount m (mate c) .into ())
      0 (zero_add _).symm (W := W)
      (by rw [plan_payload, holds_view]; exact BI.Entails.refl _)
      (by rw [plan_payload, holds_view, copied c (mate c)]; unfold cargo arrived; rw [mate_mate]))
  isplitr; · iexact H1
  isplitr; · iexact H2
  isplitl [Hs]; · iapply (Entails.of_eq (holds_view c main_v2 (part m c)).symm); iexact Hs
  isplitl [Ht]; · iapply (Entails.of_eq (holds_view (mate c) main_v3 old).symm); iexact Ht
  isplitl [HO]; · iexact HO
  isplitl [Hd1]; · iexact Hd1
  isplitr; · iexact Hr1
  isplitl [Hd2]; · iexact Hd2
  iexact Hr2

/-- The first wait counts by the buffer that was read: the same units. -/
theorem bulk_out : (Memref.whole main_v2 : Memref sig .tc .hbm S4096x4096 .bf16).view.dmaCredit = bulk := rfl

/-- The wait at `out` takes its whole round. -/
theorem out_expect (c : Dev nD) :
    0 + (Memref.whole main_v2 : Memref sig .tc .hbm S4096x4096 .bf16).view.dmaCredit = (plan (F := F) m).expect (cell c .out) 0 := by
  rw [bulk_out]; exact plan_expect m c .out

/-- The wait at `into` takes its whole round. -/
theorem into_expect (c : Dev nD) :
    0 + (Memref.whole main_v3 : Memref sig .tc .hbm S4096x4096 .bf16).view.dmaCredit = (plan (F := F) m).expect (cell c .into) 0 :=
  plan_expect m c .into

/-- What the body runs from: the seat in the protocol, the partial product, the receiving buffer, the debt. -/
def bodyIn (c : Dev nD) (W : Waits sig Unit) : sProp 𝕄 :=
  iprop(seated m c ∗ (holds c main_v2 (part m c) ∗ ∃ f, holds c main_v3 f) ∗ owes (c : Thread nD τ) (debt c) W)

/-- What it leaves: its three counters at zero, the partial product untouched, the mate's beside it, nothing owed. -/
def bodyOut (c : Dev nD) : sProp 𝕄 :=
  iprop((semVal (cell c .gate) 0 ∗ semVal (cell c .out) 0 ∗ semVal (cell c .into) 0)
    ∗ (holds c main_v2 (part m c) ∗ holds c main_v3 (arrived m c)) ∗ ∃ W, owes (c : Thread nD τ) (0 : CellTallies nD τ sig Unit) W)

set_option maxHeartbeats 1600000 in
/-- The body runs on every device from `bodyIn` to `bodyOut`. -/
theorem body_run (c : Dev nD) (W : Waits sig Unit) (Q : PUnit → sProp 𝕄) :
    iprop(bodyIn m c W ∗ (bodyOut m c -∗ Q ⟨⟩))
      ⊢ wp frame (wpE (defs₀ (F := F)) 𝒱₀ c none) Set.univ
          (cc0_body (F := F) (Memref.whole main_v2) (Memref.isWhole_whole _) (Memref.whole main_v3) (Memref.isWhole_whole _) cc0_scratch0 cc0_scratch1) Q := by
  rw [cc0_body_eq_skeleton]
  simp only [cc0_body_skel, semSignalWord, semWaitWord, Prog.lift, Prog.bind_op, Prog.bind_ret, Prog.pure_eq_ret, wp_deviceId]
  rw [signal_dev c]
  unfold bodyIn seated duties credits
  iintro ⟨⟨⟨⟨%κ, #Hbook⟩, ⟨HpG, HpO, HpI⟩, ⟨#HrO, #HrI⟩, ⟨HdG, HdO, HdI⟩, ⟨HcG, HcI⟩, #Hlev⟩, ⟨Hsrc, ⟨%f, Hdst⟩⟩, HO⟩, Hk⟩
  ihave Hmine := (book_page m κ c) $$ Hbook
  icases Hmine with ⟨⟨#HG, #HOt, #HIn⟩, -⟩
  ihave Htheirs := (book_page m κ (mate c)) $$ Hbook
  icases Htheirs with ⟨⟨#HGm, -, #HInm⟩, #HrGm⟩
  -- the signal to the mate's gate lends it the receiving buffer
  iapply (Rounds.wp_signal 𝒱₀ EX (plan m) (c : Thread nD τ) none (dst := (mate c : Thread nD τ)) (sem := 0) (r := 0) (d := ())
      (κ := κ (cell (mate c) .gate)) (plan_owed m (mate c) .gate) ((plan_amount m (mate c) .gate ()).trans (by decide)) ()
      (tallyAt (cell (mate c) .into) () bulk) rfl) $$ [HO HdG Hdst]
  · isplitr; · iexact HGm
    isplitl [HO]; · iexact HO
    isplitl [HdG]; · iexact HdG
    isplitl [Hdst]
    · iapply (Entails.of_eq (plan_payload m (mate c) .gate ()).symm)
      unfold cargo; rw [mate_mate]
      isplitl [Hdst]; · iexists f; iexact Hdst
      iexact HrI
    iexact HrGm
  iintro HO
  -- the wait at the own gate brings the mate's receiving buffer
  iapply (Rounds.wp_wait_rest_token 𝒱₀ EX (plan m) (c : Thread nD τ) none (κ := κ (cell c .gate))
      (wpE_semWait_eq 𝒱₀ (c : Thread nD τ) none Set.univ) (Set.mem_univ _) () (O := tallyAt (cell (mate c) .into) () bulk) (W := W)
      (R := 0) (m := 0) (T := ∅) (plan_expect m c .gate)) $$ [HcG HO HpG]
  · isplitr; · iexact HG
    isplitl [HcG]; · iexact HcG
    isplitl [HO]; · iexact HO
    isplitr; · iapply (may_wait_gate c); iexact Hlev
    iexact HpG
  iintro ⟨HO, HpG, -, Hload⟩
  ihave Hload := (Entails.of_eq (plan_rest m c .gate)) $$ Hload
  unfold cargo
  icases Hload with ⟨⟨%g, Htgt⟩, #HrIm⟩
  -- the copy into it discharges both remaining duties
  iapply (copy_over m c (copy_dev c) (κ (cell c .out)) (κ (cell (mate c) .into)) g (insert ((Port.gate).sem, ()) W)) $$ [Hsrc Htgt HO HdO HdI]
  · isplitr
    · isplitr; · iexact HOt
      iexact HInm
    isplitr
    · isplitr; · iexact HrO
      iexact HrIm
    isplitl [HdO HdI]; · isplitl [HdO] <;> iassumption
    isplitl [Hsrc Htgt]; · isplitl [Hsrc] <;> iassumption
    iexact HO
  iintro ⟨HcO, HO⟩
  -- the wait for the own copy to have read its source
  iapply (Rounds.wp_wait_rest_token 𝒱₀ EX (plan m) (c : Thread nD τ) none (κ := κ (cell c .out))
      (wpE_waitDma2_eq (src := Memref.whole main_v3) (dst := Memref.whole main_v2) 𝒱₀ (c : Thread nD τ) none Set.univ) (Set.mem_univ _) ()
      (O := 0) (W := insert ((Port.gate).sem, ()) W) (R := 0) (m := 0) (T := ∅) (out_expect m c)) $$ [HcO HO HpO]
  · isplitr; · iexact HOt
    isplitl [HcO]; · rw [bulk_out]; iexact HcO
    isplitl [HO]; · iexact HO
    isplitr; · rw [MayWait_zero]; iempintro
    iexact HpO
  iintro ⟨HO, HpO, -, Hload⟩
  ihave Hsrc := (Entails.of_eq (plan_rest m c .out)) $$ Hload
  -- the wait for the mate's copy to have arrived
  iapply (Rounds.wp_wait_rest_token 𝒱₀ EX (plan m) (c : Thread nD τ) none (κ := κ (cell c .into))
      (wpE_waitDma2_eq (src := Memref.whole main_v2) (dst := Memref.whole main_v3) 𝒱₀ (c : Thread nD τ) none Set.univ) (Set.mem_univ _) () (O := 0)
      (W := insert ((Port.out).sem, ()) (insert ((Port.gate).sem, ()) W)) (R := 0) (m := 0) (T := ∅) (into_expect m c)) $$ [HcI HO HpI]
  · isplitr; · iexact HIn
    isplitl [HcI]; · iexact HcI
    isplitl [HO]; · iexact HO
    isplitr; · rw [MayWait_zero]; iempintro
    iexact HpI
  iintro ⟨HO, HpI, -, Hload⟩
  ihave Hdst := (Entails.of_eq (plan_rest m c .into)) $$ Hload
  -- every round is over: the counters leave the protocol
  rw [wp_ret]
  imod (retire m c .gate (κ (cell c .gate))) $$ [HpG] with HzG
  · isplitr; · iexact HG
    iexact HpG
  imod (retire m c .out (κ (cell c .out))) $$ [HpO] with HzO
  · isplitr; · iexact HOt
    iexact HpO
  imod (retire m c .into (κ (cell c .into))) $$ [HpI] with HzI
  · isplitr; · iexact HIn
    iexact HpI
  imodintro
  iapply Hk
  unfold bodyOut cargo
  isplitl [HzG HzO HzI]
  · isplitl [HzG]; · iexact HzG
    isplitl [HzO] <;> iassumption
  isplitl [Hsrc Hdst]
  · isplitl [Hsrc] <;> iassumption
  iexists _; iexact HO

end Cert.KernelIdeal.Exchange

end
-- ==== Proof.Region.lean ====
/-
  The kernel as one region of the program.

  The region has no windows and one grid point. Before that point a device is seated in the protocol and owes its mate a
  signal and a copy; after it the device owes nothing, its three counters are at zero, and its receiving buffer holds the
  mate's partial product. The host's operations before and after it are two further segments, and the three make up the
  program.
-/
module

public import proofs.«01_k».proof.Proof.Body
public import proofs.«01_k».proof.Proof.Gen.KernelIdeal.Frame
public import Idealize.ShloMosaic.Lib.Pipeline.Frame

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## The device's buffers along the program -/

/-- After the exchange: the receiving buffer holds the mate's partial product, all else is as before. -/
abbrev V₂ (c : Dev nD) : Valuation τ sig (Elt F) := Function.update (V₁ m c) (Proc.devRef .tc main_v3) (arrived m c)

/-- At the end of the program. -/
abbrev V₃ (c : Dev nD) : Valuation τ sig (Elt F) := StableHlo.after hostOps1 (V₂ m c)

/-- The two buffers the kernel touches. -/
def touched : Finset (DevRef τ sig) := {Proc.devRef .tc main_v2, Proc.devRef .tc main_v3}

theorem touched_sub : touched ⊆ ucRefs τ sig := by decide

/-- Holding the two buffers, written out. -/
theorem held_touched (c : Dev nD) (W : Valuation τ sig (Elt F)) :
    (StableHlo.held (c : Thread nD τ) touched W : sProp 𝕄) = iprop(holds c main_v2 (W main_v2) ∗ holds c main_v3 (W main_v3)) := by
  unfold StableHlo.held
  rw [bigSep_eq_bigSepL_of_eq [Proc.devRef .tc main_v2, Proc.devRef .tc main_v3] (by decide) (by decide)]
  rfl

/-- The exchange leaves the partial product in place. -/
theorem V₂_sent (c : Dev nD) : V₂ m c main_v2 = part m c :=
  Function.update_of_ne (by decide : Proc.devRef .tc main_v2 ≠ Proc.devRef .tc main_v3) _ _

/-- It puts the mate's partial product in the receiving buffer. -/
theorem V₂_received (c : Dev nD) : V₂ m c main_v3 = arrived m c := Function.update_self ..

/-- It changes no buffer the kernel does not touch. -/
theorem V₂_rest (c : Dev nD) : ∀ b ∈ ucRefs τ sig \ touched, V₂ m c b = V₁ m c b := fun b hb =>
  Function.update_of_ne (fun h => (Finset.mem_sdiff.mp hb).2 (by rw [h]; decide)) _ _

/-! ## The invariant around the one grid point -/

/-- Before the body: the device in its seat, its partial product, its receiving buffer. -/
def before (c : Dev nD) : sProp 𝕄 :=
  iprop((∃ r, prngReg c r) ∗ seated m c ∗ (holds c main_v2 (part m c) ∗ ∃ f, holds c main_v3 f))

/-- After the body: its counters at zero, both partial products. -/
def behind (c : Dev nD) : sProp 𝕄 :=
  iprop((∃ r, prngReg c r) ∗ (semVal (cell c .gate) 0 ∗ semVal (cell c .out) 0 ∗ semVal (cell c .into) 0)
    ∗ (holds c main_v2 (part m c) ∗ holds c main_v3 (arrived m c)))

/-- The state at position `n` of the grid, and the debt there. -/
def state (c : Dev nD) : ℕ → sProp 𝕄
  | 0 => before m c
  | _ + 1 => behind m c

def due (c : Dev nD) : ℕ → CellTallies nD τ sig Unit
  | 0 => debt c
  | _ + 1 => 0

/-- The region's proof data: the two states, and the debt, which is there before the point and gone after it. -/
def dat (c : Dev nD) : Dat τ (Elt F) Unit ℕ UU ℕ cfg0 c where
  A w := w.elim0
  after w := w.elim0
  Φ t := state m c t.val
  q w := w.elim0
  owed t := due c t.val

abbrev adm : (p : Fin 1) → (pcfgs (F := F) p).Adm := fun p => (cfgs p).toPCfg_adm

def dats : (p : Fin 1) → (c : Dev nD) → Dat τ (Elt F) Unit ℕ UU ℕ (pin (pcfgs (F := F)) adm p) c
  | 0 => dat m

theorem owed_start (c : Dev nD) : (dat (F := F) m c).owed t0_0.castSucc = debt c := rfl
theorem owed_end (c : Dev nD) : (dat (F := F) m c).owed t0_0.succ = 0 := rfl

/-- The grid's last position is the one after its only point. -/
theorem state_last (c : Dev nD) : (dats (F := F) m 0 c).Φ (Fin.last (pin (pcfgs (F := F)) adm 0).N) = behind m c := by
  show state m c grid0.N = behind m c
  rw [N_0, state]

theorem due_last (c : Dev nD) : (dats (F := F) m 0 c).owed (Fin.last (pin (pcfgs (F := F)) adm 0).N) = 0 := by
  show due c grid0.N = 0
  rw [N_0, due]

theorem no_windows (Φ : Fin 0 → sProp 𝕄) : bigSep Finset.univ Φ = (BI.emp : sProp 𝕄) :=
  bigSep_univ_eq_bigSepL [] (by decide) (by decide) Φ

/-- What the device owes, as the region's data state it: read off, and put back. -/
theorem owes_out (c : Dev nD) : ((dat (F := F) m c).owesAt () t0_0.castSucc : sProp 𝕄) ⊢ iprop(∃ W, owes (c : Thread nD τ) (debt c) W) := by
  unfold Dat.owesAt owesWithin
  rw [owed_start]
  iintro ⟨%W, -, HO⟩
  iexists W; iexact HO

theorem owes_back (c : Dev nD) (W : Waits sig Unit) :
    (owes (c : Thread nD τ) (0 : CellTallies nD τ sig Unit) W : sProp 𝕄) ⊢ (dat (F := F) m c).owesAt () t0_0.succ := by
  unfold Dat.owesAt owesWithin Dat.bound
  rw [owed_end]
  iintro HO
  iexists W
  isplitr; · ipureintro; exact fun _ _ => Or.inl trivial
  iexact HO

/-- At the region's one point the body's run takes `before` to `behind` and discharges the debt. -/
theorem body_ok (c : Dev nD) : BodyObligation (dat (F := F) m c) defs₀ 𝒱₀ () Set.univ := fun t => by
  obtain rfl := fin_N0 t
  rw [no_windows, no_windows]
  rw [show (dat m c).Φ t0_0.castSucc = before m c from rfl, show (dat m c).Φ t0_0.succ = behind m c from rfl]
  unfold before behind
  iintro ⟨⟨Hreg, Hseat, Hbufs⟩, HO, -⟩
  ihave HO := (owes_out m c) $$ HO
  icases HO with ⟨%W, HO⟩
  iapply (body_run m c W _)
  unfold bodyIn bodyOut
  isplitl [Hseat Hbufs HO]
  · isplitl [Hseat]; · iexact Hseat
    isplitl [Hbufs] <;> iassumption
  iintro ⟨Hz, Hbufs, ⟨%W', HO⟩⟩
  isplitl [Hreg Hz Hbufs]
  · isplitl [Hreg]; · iexact Hreg
    isplitl [Hz] <;> iassumption
  isplitl [HO]; · iapply (owes_back m c W'); iexact HO
  iempintro

/-! ## The region -/

/-- The DMA semaphores, which the kernel allocates for itself. -/
def osem : Fin 2 → SemLoc sig := ![(Port.out).sem, (Port.into).sem]

/-- They are scoped, distinct, and no window's. -/
theorem own_sems : OwnSemFacts (pcfgs (F := F) 0).spec osem := (by decide : OwnSemFacts cfg0.spec osem)

theorem ownSems_eq (c : Dev nD) :
    (ownSems0 osem c : sProp 𝕄) = iprop(semVal (cell c .out) 0 ∗ semVal (cell c .into) 0) :=
  BI.bigSep_fin_two (fun k : Fin 2 => (semVal ((c : Thread nD τ), osem k) 0 : sProp 𝕄))

/-- Entering the kernel, a device turns its stake into a seat: the two DMA counters, at zero, go into the protocol. -/
theorem take_seat (c : Dev nD) : iprop(stake m c ∗ ownSems0 osem c ∗ levAts L lv) ⊢ (|={Set.univ}=> seated m c : sProp 𝕄) := by
  rw [ownSems_eq]
  unfold stake seated
  iintro ⟨⟨⟨%κ, #Hbook⟩, ⟨HpG, HoO, HoI⟩, Hduties, Hcredits⟩, ⟨HzO, HzI⟩, #Hlev⟩
  ihave Hpage := (book_page m κ c) $$ Hbook
  icases Hpage with ⟨⟨-, #HOt, #HIn⟩, -⟩
  imod (Rounds.cell_open EX (plan m) (g := cell c .out) (Set.mem_univ (κ (cell c .out)))) $$ [HoO HzO] with ⟨HpO, #HrO⟩
  · isplitr; · iexact HOt
    isplitl [HoO] <;> iassumption
  imod (Rounds.cell_open EX (plan m) (g := cell c .into) (Set.mem_univ (κ (cell c .into)))) $$ [HoI HzI] with ⟨HpI, #HrI⟩
  · isplitr; · iexact HIn
    isplitl [HoI] <;> iassumption
  imodintro
  isplitr; · iexists κ; iexact Hbook
  isplitl [HpG HpO HpI]
  · isplitl [HpG]; · iexact HpG
    isplitl [HpO] <;> iassumption
  isplitr
  · isplitr; · iexact HrO
    iexact HrI
  isplitl [Hduties]; · iexact Hduties
  isplitl [Hcredits]; · iexact Hcredits
  iexact Hlev

/-- No scoped buffer rides along the region: the program has none. -/
theorem no_scoped (c : Dev nD) :
    (scopedRest (Ix := Unit) (Name := ℕ) (U := UU) (Lvl := ℕ) (Val := Elt F) (pin (pcfgs (F := F)) adm 0).spec c : sProp 𝕄) = BI.emp :=
  scopedRest0_eq c

/-- The region's start. -/
theorem enter (c : Dev nD) :
    iprop(scopedRest (pin (pcfgs (F := F)) adm 0).spec c ∗ (∃ r, prngReg c r) ∗ StableHlo.held (c.tc : Thread nD τ) touched (V₁ m c) ∗ seated m c)
      ⊢ (dats m 0 c).Φ 0 := by
  rw [show (dats m 0 c).Φ 0 = before m c from rfl, held_touched]
  unfold before part
  iintro ⟨-, Hreg, ⟨Hsrc, Hdst⟩, Hseat⟩
  isplitl [Hreg]; · iexact Hreg
  isplitl [Hseat]; · iexact Hseat
  isplitl [Hsrc]; · iexact Hsrc
  iexists _; iexact Hdst

/-- The region's end. -/
theorem leave (c : Dev nD) :
    (dats m 0 c).Φ (Fin.last (pin (pcfgs (F := F)) adm 0).N)
      ⊢ iprop(scopedRest (pin (pcfgs (F := F)) adm 0).spec c ∗ (∃ r, prngReg c r) ∗ StableHlo.held (c.tc : Thread nD τ) touched (V₂ m c)
          ∗ ownSems0 osem c ∗ semVal (cell c .gate) 0) := by
  rw [state_last, held_touched, V₂_sent, V₂_received, ownSems_eq, no_scoped]
  unfold behind
  iintro ⟨Hreg, ⟨HzG, Hz⟩, Hbufs⟩
  isplitr; · iempintro
  isplitl [Hreg]; · iexact Hreg
  isplitl [Hbufs]; · iexact Hbufs
  isplitl [Hz] <;> iassumption

/-- All that is owed in the region lies above level 0. -/
theorem debt_above (c : Dev nD) (t : Fin ((pin (pcfgs (F := F)) adm 0).N + 1)) (g : GSem nD τ sig) (u : Unit)
    (h : 0 < (dats (F := F) m 0 c).owed t g u) : u ∈ L g ∧ (0 : ℕ) < lv g u := by
  rw [show (dats (F := F) m 0 c).owed t = due c t.val from rfl] at h
  generalize t.val = n at h
  rcases n with _ | n
  · rcases of_debt_pos h with rfl | rfl
    · exact ⟨L_cell _ .into u, by rw [lv_cell]; decide⟩
    · exact ⟨L_cell _ .gate u, by rw [lv_cell]; decide⟩
  · exact absurd h (Nat.lt_irrefl 0)

theorem launch_facts : PLaunchFacts (nD := nD) (τ := τ) (pcfgs (F := F)) 0 where
  cellOf_inj a := by rw [Subsingleton.elim a adm]; exact cellOf_inj
  win := winFacts0
  pre := PreFacts.none _
  block_pos w := w.elim0
  arr_whole w := w.elim0
  stage_whole w := w.elim0

set_option backward.isDefEq.respectTransparency.types false in
/-- The kernel's region: in with the stake, out with the gate's counter at zero. -/
def region : RegionSeg (pcfgs (F := F)) adm (dats m) () defs₀ 𝒱₀ L lv 0 :=
  RegionSeg.ofTalk (pcfgs (F := F)) adm (dats m) () defs₀ 𝒱₀ L lv 0 osem own_sems
    touched (ucRefs τ sig) touched_sub launch_facts rfl (fun c => (body_ok m c).loose)
    (fun _ => 0) debt (fun c => (zero_add (debt c)).symm)
    (due_last m) (fun _ => rfl) (fun _ w => w.elim0)
    (V₁ m) (V₂ m) (V₂_rest m)
    (stake m) (fun c => semVal (cell c .gate) 0) (seated m) (fun c => semVal (cell c .gate) 0) (take_seat m) (enter m) (leave m)
    (fun c => by iintro H; imodintro; iexact H)
    (fun _ => 0) ⟨fun _ w => w.elim0, fun _ w => w.elim0, debt_above m⟩
    (fun _ => iprop(emp)) (fun _ w => w.elim0) (fun _ w => w.elim0)

/-! ## The three segments of the program -/

/-- What a device carries beside its buffers into the kernel: its stake, the generator register, its debt. -/
def luggage (c : Dev nD) : sProp 𝕄 :=
  iprop(stake m c ∗ (∃ r, prngReg c r) ∗ ∃ W, owes (c : Thread nD τ) (debt c) W)

/-- What it carries out of it: the gate's counter at zero, no debt. -/
def keepsake (c : Dev nD) : sProp 𝕄 :=
  iprop(semVal (cell c .gate) 0 ∗ ∃ W, owes (c : Thread nD τ) (0 : CellTallies nD τ sig Unit) W)

theorem no_arrays (c : Dev nD) (W : Valuation τ sig (Elt F)) :
    (StableHlo.held (c.tc : Thread nD τ) (arrRefs (τ := τ) (pcfgs (F := F) 0).spec) W : sProp 𝕄) = BI.emp := by
  rw [show arrRefs (τ := τ) (pcfgs (F := F) 0).spec = ∅ from (by decide : arrRefs (τ := τ) spec0 = ∅)]
  exact BI.bigSep_empty

theorem region_pre (c : Dev nD) :
    iprop(StableHlo.held (c : Thread nD τ) (ucRefs τ sig) (V₁ m c) ∗ luggage m c) ⊢ (region m).pre c := by
  show _ ⊢ iprop(StableHlo.held (c.tc : Thread nD τ) (arrRefs (τ := τ) (pcfgs (F := F) 0).spec) (V₁ m c) ∗ (∃ r, prngReg c r)
    ∗ (StableHlo.held (c.tc : Thread nD τ) (ucRefs τ sig) (V₁ m c) ∗ emp) ∗ stake m c ∗ ∃ W, owes (c : Thread nD τ) (0 + debt c) W)
  rw [no_arrays, zero_add]
  unfold luggage
  iintro ⟨Hbufs, Hstake, Hreg, HO⟩
  isplitr; · iempintro
  isplitl [Hreg]; · iexact Hreg
  isplitl [Hbufs]
  · isplitl [Hbufs]; · iexact Hbufs
    iempintro
  isplitl [Hstake] <;> iassumption

theorem region_post (c : Dev nD) :
    (region m).post c ⊢ iprop(StableHlo.held (c : Thread nD τ) (ucRefs τ sig) (V₂ m c) ∗ (keepsake c : sProp 𝕄)) := by
  show iprop(StableHlo.held (c.tc : Thread nD τ) (arrRefs (τ := τ) (pcfgs (F := F) 0).spec) (V₂ m c) ∗ (∃ r, prngReg c r)
    ∗ (StableHlo.held (c.tc : Thread nD τ) (ucRefs τ sig) (V₂ m c) ∗ emp) ∗ semVal (cell c .gate) 0
    ∗ ∃ W, owes (c : Thread nD τ) (0 : CellTallies nD τ sig Unit) W) ⊢ _
  unfold keepsake
  iintro ⟨-, -, ⟨Hbufs, -⟩, Hz, HO⟩
  isplitl [Hbufs]; · iexact Hbufs
  isplitl [Hz] <;> iassumption

/-- A host segment over the program's unscoped buffers: its operations touch no other, and name no result of their own making. -/
abbrev host (ops : List (HloOp τ sig (Elt F))) (hsub : ops.Forall fun op => op.bufs ⊆ StableHlo.tcRefs τ sig)
    (hfresh : ops.Forall fun op => op.fresh = ∅) (V : Dev nD → Valuation τ sig (Elt F)) (R : Dev nD → sProp 𝕄) :
    HostSeg (Name := ℕ) (U := UU) (pcfgs (F := F)) defs₀ 𝒱₀ L lv :=
  HostSeg.ofOps _ _ _ _ _ (ucRefs τ sig) ops (fun op h => sub_ucRefs op (List.forall_iff_forall_mem.mp hsub op h))
    (List.forall_iff_forall_mem.mp hfresh) V R

/-- The local product, then the exchange, then the sum. -/
def segments : List (Seg (pcfgs (F := F)) adm (dats m) () defs₀ 𝒱₀ L lv) :=
  [.host (host hostOps0 hostOps0_sub hostOps0_fresh (V₀ m) (luggage m)), .region (region m),
    .host (host hostOps1 hostOps1_sub hostOps1_fresh (V₂ m) keepsake)]

/-- The program is the run of the three. -/
theorem main_run (c : Dev nD) : main (F := F) c = Seg.run (segments m) :=
  main_segs adm (dats m) () 𝒱₀ L lv _ _ (region m) rfl rfl c

end Cert.KernelIdeal.Exchange

end
-- ==== Proof.Launch.lean ====
/-
  The launch, and the run of the whole program.

  At launch the ghost state of every counter is made at once: the gates' invariants from their counters, which are there,
  and the DMA counters' dormant, since the kernel allocates those later. What comes of it is dealt out to the devices,
  each duty's token going to the device that will discharge the duty. From there the three segments run one after the
  other, on every device, and what they leave is read off the final memory.
-/
module

public import proofs.«01_k».proof.Proof.Region
public import Idealize.ShloMosaic.Harness.Basic
public import Idealize.ShloMosaic.Lib.Quiescent
public import Idealize.ShloMosaic.Lib.Claim

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The counters, row by row -/

/-- One port's counters over all devices. -/
def row (p : Port) : Finset (GSem nD τ sig) := Finset.univ.map ⟨fun c => cell c p, fun _ _ h => (cell_inj h).1⟩

theorem mem_row {p : Port} {g : GSem nD τ sig} (h : g ∈ row p) : ∃ c, cell c p = g := by
  obtain ⟨c, -, e⟩ := Finset.mem_map.mp h
  exact ⟨c, e⟩

theorem rows_disjoint {p q : Port} (h : p ≠ q) : Disjoint (row p) (row q) := by
  rw [Finset.disjoint_left]
  intro g hp hq
  obtain ⟨c, rfl⟩ := mem_row hp
  obtain ⟨d, e⟩ := mem_row hq
  exact h (cell_inj e).2.symm

/-- The DMA counters. -/
abbrev late : Finset (GSem nD τ sig) := row .out ∪ row .into

theorem gate_late : Disjoint (row .gate) late :=
  Finset.disjoint_union_right.mpr ⟨rows_disjoint (by decide), rows_disjoint (by decide)⟩

/-- What is held at every counter of a row is held by device. -/
theorem over_row (p : Port) (Φ : GSem nD τ sig → sProp 𝕄) : bigSep (row p) Φ = bigSep Finset.univ fun c : Dev nD => Φ (cell c p) :=
  bigSep_map _

theorem over_late (Φ : GSem nD τ sig → sProp 𝕄) :
    bigSep late Φ = bigSep Finset.univ fun c : Dev nD => iprop(Φ (cell c .out) ∗ Φ (cell c .into)) := by
  rw [bigSep_union (rows_disjoint (by decide)), over_row, over_row, bigSep_sep']; rfl

theorem over_all (Φ : GSem nD τ sig → sProp 𝕄) :
    bigSep (row .gate ∪ late) Φ
      = bigSep Finset.univ fun c : Dev nD => iprop(Φ (cell c .gate) ∗ Φ (cell c .out) ∗ Φ (cell c .into)) := by
  rw [bigSep_union gate_late, over_row, over_late, bigSep_sep' (Φ := fun c : Dev nD => Φ (cell c .gate))]; rfl

/-- One duty's token per counter, its round 0. -/
def tokens : Finset (GSem nD τ sig × ℕ × Unit) := (row .gate ∪ late).map ⟨fun g => (g, 0, ()), fun _ _ h => congrArg Prod.fst h⟩

/-- The tokens, each with the device that discharges the duty: those of the gates and of the arrivals go to the mates. -/
theorem deal_tokens :
    (bigSep tokens fun x => (dutyTok EX x.1 x.2.1 x.2.2 : sProp 𝕄)) ⊢ bigSep Finset.univ fun c : Dev nD => duties c := by
  unfold tokens duties
  rw [bigSep_map]
  show bigSep (row .gate ∪ late) (fun g => (dutyTok EX g 0 () : sProp 𝕄)) ⊢ _
  rw [over_all, bigSep_sep', bigSep_sep', bigSep_sep', bigSep_sep',
    bigSep_univ_equiv mates (fun c : Dev nD => (dutyTok EX (cell c .gate) 0 () : sProp 𝕄)),
    bigSep_univ_equiv mates (fun c : Dev nD => (dutyTok EX (cell c .into) 0 () : sProp 𝕄))]
  exact BI.Entails.refl _

/-! ## The ghost state of the launch -/

/-- The exchange's share of the launch element. -/
abbrev seed : UR sig nD τ := launchOf (row .gate) late tokens

/-- The launch element: the pipeline library's share and the exchange's. -/
def u₀ : UU :=
  (initOf (cells (pin (pcfgs (F := F)) adm) cellOf_inj) (launchToks (pin (pcfgs (F := F)) adm) cellOf_inj), seed)

/-- The seed has to be used whole; until then device 0 keeps it. -/
def keeper (c : Dev nD) : sProp 𝕄 := if c = 0 then BI.own (EX seed) else iprop(emp)

theorem keeper_all : bigSep Finset.univ (keeper (F := F)) = BI.own (EX seed) := by
  rw [bigSep_univ_at _ (0 : Dev nD), bigSep_congr (s := Finset.univ.erase (0 : Dev nD)) (Ψ := fun _ => (BI.emp : sProp 𝕄))
    (fun c hc => by unfold keeper; exact if_neg (Finset.ne_of_mem_erase hc)), BI.bigSep_emp_const]
  exact (BI.equiv_iff.mp sep_emp).trans (if_pos rfl)

/-- The seed and the gates' counters become the record, the places and rights of every device, and its duties. -/
theorem sprout :
    iprop((bigSep Finset.univ fun c : Dev nD => (semVal (cell c .gate) 0 : sProp 𝕄)) ∗ BI.own (EX seed))
      ⊢ (|={Set.univ}=> ∃ κ, book m κ ∗ bigSep Finset.univ fun c : Dev nD =>
          iprop((atPos EX (cell c .gate) 0 ∅ 0 ∗ openTok EX (cell c .out) ∗ openTok EX (cell c .into)) ∗ duties c) : sProp 𝕄) := by
  rw [← over_row .gate fun g => (semVal g 0 : sProp 𝕄)]
  iintro H
  imod (Rounds.fund_launch EX (plan m) gate_late (fun g _ h => h) tokens) $$ H with ⟨%κ, -, #Hinv, #Hr, Hat, Hopen, Htok⟩
  imodintro
  iexists κ
  isplitr
  · unfold book
    isplitr
    · iapply (Entails.of_eq (over_all fun g => cellInv EX (plan m) (κ g) g)); iexact Hinv
    iapply (Entails.of_eq (over_row .gate fun g => (reached EX g 0 : sProp 𝕄))); iexact Hr
  iapply bigSep_pair
  isplitr [Htok]
  · iapply bigSep_pair
    isplitl [Hat]
    · iapply (Entails.of_eq (over_row .gate fun g => (atPos EX g 0 ∅ 0 : sProp 𝕄))); iexact Hat
    iapply (Entails.of_eq (over_late fun g => (openTok EX g : sProp 𝕄))); iexact Hopen
  iapply deal_tokens; iexact Htok

/-! ## The credits of the launch -/

/-- The units of a port that another device owes at launch. -/
def Port.lent : Port → ℕ
  | .gate => 1
  | .out => 0
  | .into => bulk

/-- Device `d` owes on a counter of `c` only if it is the mate of `c`. -/
theorem debt_at (d c : Dev nD) (p : Port) : debt d (cell c p) () = if d = mate c then p.lent else 0 := by
  unfold debt
  rw [Pi.add_apply, Finsupp.add_apply, tallyAt_apply, tallyAt_apply]
  have hd : c = mate d ↔ d = mate c := ⟨fun h => by rw [h, mate_mate], fun h => by rw [h, mate_mate]⟩
  have he (q : Port) : (cell c p = cell (mate d) q ∧ () = ()) ↔ (d = mate c ∧ p = q) :=
    ⟨fun h => ⟨hd.mp (cell_inj h.1).1, (cell_inj h.1).2⟩, fun h => ⟨by rw [h.2, hd.mpr h.1], rfl⟩⟩
  rw [if_congr (he .into) rfl rfl, if_congr (he .gate) rfl rfl]
  by_cases h : d = mate c <;> cases p <;> simp [h, Port.lent]

/-- So the launch lends a device, at its own counter, what its mate owes there. -/
theorem lent_at (c : Dev nD) (p : Port) :
    tallyOn (cell c p) (launchCredit (owing debt) 0 (cell c p)) = (tallyAt (cell c p) () p.lent : CellTallies nD τ sig Unit) := by
  unfold tallyAt
  refine congrArg _ (Finsupp.ext fun u => ?_)
  rw [launchCredit_owing, Finsupp.single_eq_same, Finset.sum_congr rfl fun d _ => debt_at d c p,
    Finset.sum_ite_eq' Finset.univ (mate c) fun _ => p.lent, if_pos (Finset.mem_univ _)]

theorem take_credits (c : Dev nD) : (launchCred debt c : sProp 𝕄) ⊢ credits c := by
  unfold launchCred credits
  rw [bigSep_univ_at _ (Port.gate).sem, show (1 : ℕ) = (Port.gate).lent from rfl, show bulk = (Port.into).lent from rfl, ← lent_at c .gate,
    ← lent_at c .into]
  exact sep_mono_right (bigSep_elim (i := (Port.into).sem) (Finset.mem_erase.mpr ⟨by decide, Finset.mem_univ _⟩))

/-! ## The devices at the start -/

/-- The one semaphore the kernel doesn't allocate is the barrier's. -/
theorem unscoped_sem : ∀ sm : SemLoc sig, sm.isScoped .tc = false → sm = (Port.gate).sem := by decide

theorem unscoped_counter (c : Dev nD) : (unscopedSems0 c : sProp 𝕄) = semVal (cell c .gate) 0 := by
  unfold unscopedSems0
  rw [show (Finset.univ.filter fun sm : SemLoc sig => ¬ sm.isScoped .tc) = {(Port.gate).sem} from by decide, BI.bigSep_singleton]

/-- A device as the program starts. -/
abbrev start (c : Dev nD) : sProp 𝕄 := iprop(StableHlo.held (c : Thread nD τ) (ucRefs τ sig) (V₀ m c) ∗ luggage m c)

/-- What the launch gives a device, as the kit states it. -/
abbrev given (c : Dev nD) : sProp 𝕄 :=
  iprop(unscopedBufs c (fun b => m ((c : Thread nD τ).loc b)) ∗ unscopedSems0 c ∗ owes (c : Thread nD τ) (debt c) ∅
    ∗ launchCred debt c ∗ prngReg c (ρ c) ∗ keeper c)

/-- What of it is not ghost state. -/
def goods (c : Dev nD) : sProp 𝕄 :=
  iprop(StableHlo.held (c : Thread nD τ) (ucRefs τ sig) (V₀ m c) ∗ credits c ∗ (∃ r, prngReg c r) ∗ owes (c : Thread nD τ) (debt c) ∅)

theorem sort_given (c : Dev nD) : given m ρ c ⊢ iprop((semVal (cell c .gate) 0 ∗ keeper c) ∗ goods m c) := by
  unfold given goods
  rw [show unscopedBufs c (fun b => m ((c : Thread nD τ).loc b)) = StableHlo.held (c : Thread nD τ) (ucRefs τ sig) (V₀ m c)
    from unscopedBufs_held c (V₀ m c), unscoped_counter]
  iintro ⟨Hbufs, Hz, HO, Hcr, Hreg, Hkeep⟩
  isplitl [Hz Hkeep]; · isplitl [Hz] <;> iassumption
  isplitl [Hbufs]; · iexact Hbufs
  isplitl [Hcr]; · iapply (take_credits c); iexact Hcr
  isplitl [Hreg]; · iexists _; iexact Hreg
  iexact HO

/-- From what the launch gives, every device is made ready. -/
theorem make_ready :
    iprop((bigSep Finset.univ fun c : Dev nD => given m ρ c) ∗ levAts L lv) ⊢ (|={Set.univ}=> bigSep Finset.univ (start m) : sProp 𝕄) := by
  iintro ⟨H, -⟩
  ihave H := (show (bigSep Finset.univ fun c : Dev nD => given m ρ c)
      ⊢ (bigSep Finset.univ fun c : Dev nD => iprop((semVal (cell c .gate) 0 ∗ keeper c) ∗ goods m c) : sProp 𝕄)
    from bigSep_mono fun c _ => sort_given m ρ c) $$ H
  ihave H := bigSep_unpair $$ H
  icases H with ⟨H, Hgoods⟩
  ihave H := bigSep_unpair $$ H
  icases H with ⟨Hz, Hkeep⟩
  imod (sprout m) $$ [Hz Hkeep] with ⟨%κ, #Hbook, Hghost⟩
  · isplitl [Hz]; · iexact Hz
    iapply (Entails.of_eq (keeper_all (F := F))); iexact Hkeep
  imodintro
  iapply (bigSep_with_persistent (R := book m κ) (Φ := fun c => iprop(((atPos EX (cell c .gate) 0 ∅ 0 ∗ openTok EX (cell c .out)
      ∗ openTok EX (cell c .into)) ∗ duties c) ∗ goods m c)) fun c _ => by
    unfold goods start luggage stake
    iintro ⟨#Hbook, ⟨Hplace, Hduties⟩, Hbufs, Hcr, Hreg, HO⟩
    isplitl [Hbufs]; · iexact Hbufs
    isplitl [Hplace Hduties Hcr]
    · isplitr; · iexists κ; iexact Hbook
      isplitl [Hplace]; · iexact Hplace
      isplitl [Hduties] <;> iassumption
    isplitl [Hreg]; · iexact Hreg
    iexists _; iexact HO)
  isplitr; · iexact Hbook
  iapply bigSep_pair
  isplitl [Hghost] <;> iassumption

/-! ## What the buffers hold at the end -/

/-- The host operations before the kernel leave both arguments as they were launched. -/
theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c

/-- The first argument ends as it was launched. -/
theorem V₃_arg0 (c : Dev nD) : V₃ m c main_arg0 = m ((c : Thread nD τ).loc main_arg0) := by
  rw [← V₁_arg0 m c]
  show StableHlo.after hostOps1 (V₂ m c) (Proc.devRef .tc main_arg0) = _
  rw [StableHlo.after_cons, StableHlo.after_nil, StableHlo.binary_result_ne _ _ _ _ _ _ _ _ (by decide)]
  exact V₂_rest m c _ (by decide)

/-- The second argument ends as it was launched. -/
theorem V₃_arg1 (c : Dev nD) : V₃ m c main_arg1 = m ((c : Thread nD τ).loc main_arg1) := by
  rw [← V₁_arg1 m c]
  show StableHlo.after hostOps1 (V₂ m c) (Proc.devRef .tc main_arg1) = _
  rw [StableHlo.after_cons, StableHlo.after_nil, StableHlo.binary_result_ne _ _ _ _ _ _ _ _ (by decide)]
  exact V₂_rest m c _ (by decide)

/-- The result on device `c`: its own partial product plus its mate's. -/
def total (c : Dev nD) : Buf (Elt F) ((c : Thread nD τ).loc main_v4) :=
  addf (part m c : (⟨S4096x4096, .bf16⟩ : BufTy).Contents (Elt F)) (arrived m c : (⟨S4096x4096, .bf16⟩ : BufTy).Contents (Elt F))

theorem V₃_result (c : Dev nD) : V₃ m c main_v4 = total m c := by
  show StableHlo.after hostOps1 (V₂ m c) (Proc.devRef .tc main_v4) = _
  rw [StableHlo.after_cons, StableHlo.after_nil, StableHlo.binary_result]
  show addf (V₂ m c main_v2) (V₂ m c main_v3) = _
  rw [V₂_sent, V₂_received]
  rfl

/-- The program's unscoped buffers, written out. -/
theorem held_all (c : Dev nD) (W : Valuation τ sig (Elt F)) :
    (StableHlo.held (c : Thread nD τ) (ucRefs τ sig) W : sProp 𝕄)
      = iprop(holds c main_arg0 (W main_arg0) ∗ holds c main_arg1 (W main_arg1) ∗ holds c main_v1 (W main_v1) ∗ holds c main_v2 (W main_v2)
          ∗ holds c main_v3 (W main_v3) ∗ holds c main_v4 (W main_v4)) := by
  unfold StableHlo.held
  rw [bigSep_eq_bigSepL_of_eq [Proc.devRef .tc main_arg0, Proc.devRef .tc main_arg1, Proc.devRef .tc main_v1, Proc.devRef .tc main_v2,
    Proc.devRef .tc main_v3, Proc.devRef .tc main_v4] (by decide) (by decide)]
  rfl

/-! ## The run -/

/-- A device at the end. -/
abbrev finish (c : Dev nD) : sProp 𝕄 :=
  iprop(StableHlo.held (c : Thread nD τ) (ucRefs τ sig) (V₃ m c) ∗ semVal (cell c .gate) 0)

/-- What the final memory is to say of device `c`. -/
def reads (c : Dev nD) (s : MemSt nD τ sig (Elt F)) : Prop :=
  (s.mem ((c : Thread nD τ).loc main_v4) = total m c ∧ s.mem ((c : Thread nD τ).loc main_arg0) = m ((c : Thread nD τ).loc main_arg0)
    ∧ s.mem ((c : Thread nD τ).loc main_arg1) = m ((c : Thread nD τ).loc main_arg1)) ∧ s.sem (cell c .gate) = 0

theorem read_off (c : Dev nD) (s : Phys nD τ sig (Elt F)) :
    iprop(finish m c ∗ SI s) ⊢ (|={Set.univ}=> iprop(⌜reads m c s.mem⌝ ∗ SI s) : sProp 𝕄) := by
  unfold finish reads
  rw [held_all, V₃_arg0, V₃_arg1, V₃_result]
  iintro ⟨⟨⟨H0, H1, -, -, -, H4⟩, Hz⟩, HSI⟩
  icombine HSI H0 gives %h0
  icombine HSI H1 gives %h1
  icombine HSI H4 gives %h4
  icombine HSI Hz gives %hz
  imodintro
  isplitr
  · ipureintro
    exact ⟨⟨Buf.eq_of_forall_mem_univ h4, Buf.eq_of_forall_mem_univ h0, Buf.eq_of_forall_mem_univ h1⟩, by simpa using hz⟩
  iexact HSI

set_option backward.isDefEq.respectTransparency.types false in
/-- From any memory whose counters are zero, every fair run of the program ends; then on every device the result is its own
    partial product plus its mate's, the two arguments are unchanged, and every counter of the machine is zero. -/
theorem run_main : θ_run defs (onTc (τ := τ) (main (F := F))) (s₀ m ρ)
    (fun r => (∀ c : Dev nD, r.2.mem ((c : Thread nD τ).loc main_v4) = total m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  θ_run_regions_kit_sems (pcfgs (F := F)) adm (dats m) () cellOf_inj EP defs₀ 𝒱₀ L lv m ρ main (segments m)
    (fun c Q => by rw [main_run m c])
    (by simp only [segments, Seg.pipes_host, Seg.pipes_region, Seg.pipes_nil]; decide)
    (O₀ := debt) (hL := L_of_ne) (G := keeper) (u₀ := u₀)
    (hu₀ := by
      unfold u₀
      rw [keeper_all]
      iintro Hu
      ihave H := (ownU_pair _ _) $$ Hu
      imodintro
      iexact H)
    (T₀ := start m) (Tₙ := finish m)
    (hch := by
      refine ⟨fun c => .rfl, fun c => region_pre m c, fun c => region_post m c, fun c => ?_⟩
      show iprop(StableHlo.held (c : Thread nD τ) (ucRefs τ sig) (V₃ m c) ∗ keepsake c)
        ⊢ iprop(finish m c ∗ ∃ W, owes (c : Thread nD τ) (0 : CellTallies nD τ sig Unit) W)
      unfold keepsake
      iintro ⟨Hbufs, Hz, HO⟩
      isplitr [HO]
      · isplitl [Hbufs] <;> iassumption
      iexact HO)
    (hinit := make_ready m ρ)
    (QY := reads m) (hfin := read_off m)
    (hQ := fun s h hs => ⟨fun c => (h c).1, sem_eq_zero hs fun c sm hsm => by
      obtain rfl := unscoped_sem sm hsm
      exact (h c).2⟩)

end Cert.KernelIdeal.Exchange

end
-- ==== Proof.Value.lean ====
/-
  What the program computes, over the extended reals.

  The reference contracts 4096 columns of the left matrix with as many rows of the right one. Cut at 2048 the sum falls
  into two strips. A device of mesh row `h` holds the columns and rows of strip `h`, and of the right matrix the columns of
  its mesh column: its local product is strip `h` there. Its mate has the other strip of the same columns, so the sum of
  the two is the reference's product, whichever of them adds. Rounding to a narrower type changes nothing here.
-/
module

public import proofs.«01_k».proof.Proof.Launch
public import proofs.«01_k».proof.Proof.Gen.ReferenceIdeal.Run
public import Idealize.ShloMosaic.Lib.StackMember
public import Idealize.ShloMosaic.Lib.Layout
public import Idealize.ShloMosaic.PureOps.Ideal

@[expose] public section

noncomputable section

namespace Cert.KernelIdeal.Strips

open Idealize.ShloMosaic Idealize.ShloMosaic.ValueIdx
open Idealize.ShloMosaic.TcCoe
open Cert.KernelIdeal Cert.KernelIdeal.Gen
open Cert.KernelIdeal.Exchange (mate part arrived total)

/-! ## Places in the mesh -/

/-- The mesh row of a device: which strip of the contraction it has. -/
def strand (c : Dev nD) : Fin 2 := ⟨Layout.meshLin [2, 2] c.val [0], Layout.meshLin_lt [2, 2] c.val [0] (by decide)⟩

/-- The mesh column of a device: which columns of the right matrix it has. -/
def side (c : Dev nD) : Fin 2 := ⟨Layout.meshLin [2, 2] c.val [1], Layout.meshLin_lt [2, 2] c.val [1] (by decide)⟩

/-- A device and its mate have the two strips between them. -/
theorem strands : ∀ c : Dev nD, (strand c = 0 ∧ strand (mate c) = 1) ∨ (strand c = 1 ∧ strand (mate c) = 0) := by decide

/-- They have the same columns. -/
theorem side_mate : ∀ c : Dev nD, side (mate c) = side c := by decide

/-- Place `k` of strip `h` along the contraction. -/
def along (h : Fin 2) (k : Fin 2048) : Fin 4096 := ⟨h.val * 2048 + k.val, by omega⟩

/-- Column `l` of side `s` in the whole result. -/
def across (s : Fin 2) (l : Fin 4096) : Fin 8192 := ⟨s.val * 4096 + l.val, by omega⟩

/-! ## The strips of a product -/

section Product

variable (A : FVec Ideal ⟨2, ![4096, 4096]⟩ .bf16) (B : FVec Ideal ⟨2, ![4096, 8192]⟩ .bf16)

/-- Strip `h` of the product of `A` and `B` at row `r`, column `l`. -/
def strip (h : Fin 2) (r : Fin 4096) (l : Fin 8192) : EReal :=
  ∑ k : Fin 2048, A (ix2 r (along h k)) * B (ix2 (along h k) l)

/-- The product is the sum of its two strips. -/
theorem product_strips (r : Fin 4096) (l : Fin 8192) :
    Host.dotGeneral ReferenceIdeal.dot_S4096x4096_S4096x8192_S4096x8192_1_0_0_1_n_n none A B (ix2 r l) = strip A B 0 r l + strip A B 1 r l := by
  refine (StackMember.dotGeneral_plain_apply none A B r l).trans ?_
  refine (Fin.sum_univ_add (a := 2048) (b := 2048) fun k => A (ix2 r k) * B (ix2 k l)).trans ?_
  have h0 (k : Fin 2048) : (Fin.castAdd 2048 k : Fin 4096) = along 0 k := Fin.ext (by simp [along])
  have h1 (k : Fin 2048) : (Fin.natAdd 2048 k : Fin 4096) = along 1 k := Fin.ext (by simp [along, Nat.add_comm])
  unfold strip
  simp only [← h0, ← h1]

/-- Device `c`'s block of the left matrix: the columns of its strip. -/
theorem left_block (c : Dev nD) (r : Fin 4096) (k : Fin 2048) :
    Layout.blockN ⟨2, ![4096, 2048]⟩ ⟨2, ![4096, 4096]⟩ (Layout.meshBlock [2, 2] ![[], [0]] c) A (by decide) (ix2 r k)
      = A (ix2 r (along (strand c) k)) := by
  refine congrArg A (funext fun a => Fin.ext ?_)
  match a with
  | ⟨0, _⟩ => show 0 * 4096 + r.val = r.val; omega
  | ⟨1, _⟩ => rfl

/-- Device `c`'s block of the right matrix: the rows of its strip, the columns of its side. -/
theorem right_block (c : Dev nD) (k : Fin 2048) (l : Fin 4096) :
    Layout.blockN ⟨2, ![2048, 4096]⟩ ⟨2, ![4096, 8192]⟩ (Layout.meshBlock [2, 2] ![[0], [1]] c) B (by decide) (ix2 k l)
      = B (ix2 (along (strand c) k) (across (side c) l)) := by
  refine congrArg B (funext fun a => Fin.ext ?_)
  match a with
  | ⟨0, _⟩ => rfl
  | ⟨1, _⟩ => rfl

/-- Device `c`'s block of a whole result: the columns of its side. -/
theorem result_block (v : FVec Ideal ⟨2, ![4096, 8192]⟩ .bf16) (c : Dev nD) (r l : Fin 4096) :
    Layout.blockN ⟨2, ![4096, 4096]⟩ ⟨2, ![4096, 8192]⟩ (Layout.meshBlock [2, 2] ![[], [1]] c) v (by decide) (ix2 r l)
      = v (ix2 r (across (side c) l)) := by
  refine congrArg v (funext fun a => Fin.ext ?_)
  match a with
  | ⟨0, _⟩ => show 0 * 4096 + r.val = r.val; omega
  | ⟨1, _⟩ => rfl

/-- The product of a device's two blocks is its strip, at the columns of its side. -/
theorem local_strip (c : Dev nD) (r l : Fin 4096) :
    Host.dotGeneral dot_S4096x2048_S2048x4096_S4096x4096_1_0_0_1_n_n none
        (Layout.blockN ⟨2, ![4096, 2048]⟩ ⟨2, ![4096, 4096]⟩ (Layout.meshBlock [2, 2] ![[], [0]] c) A (by decide) : FVec Ideal ⟨2, ![4096, 2048]⟩ .bf16)
        (Layout.blockN ⟨2, ![2048, 4096]⟩ ⟨2, ![4096, 8192]⟩ (Layout.meshBlock [2, 2] ![[0], [1]] c) B (by decide) : FVec Ideal ⟨2, ![2048, 4096]⟩ .bf16)
        (ix2 r l)
      = strip A B (strand c) r (across (side c) l) := by
  refine (StackMember.dotGeneral_plain_apply none _ _ r l).trans ?_
  exact Finset.sum_congr rfl fun k _ => by rw [left_block, right_block]

/-- A device's strip and its mate's make up the product, in either order. -/
theorem strips_meet (c : Dev nD) (r : Fin 4096) (l : Fin 8192) :
    strip A B (strand c) r l + strip A B (strand (mate c)) r l = strip A B 0 r l + strip A B 1 r l := by
  rcases strands c with ⟨h, h'⟩ | ⟨h, h'⟩ <;> rw [h, h']
  exact add_comm _ _

end Product

/-! ## The program's result -/

variable (m : (ℓ : Loc nD τ sig) → Buf (Elt Ideal) ℓ)

/-- A device's partial product is its local product, rounded. -/
theorem part_eq {F : FTy → Type} [FloatOps F] (m : (ℓ : Loc nD τ sig) → Buf (Elt F) ℓ) (c : Dev nD) :
    part m c = truncf .bf16 (Host.dotGeneral dot_S4096x2048_S2048x4096_S4096x4096_1_0_0_1_n_n none
      (m ((c : Thread nD τ).loc main_arg0)) (m ((c : Thread nD τ).loc main_arg1))) bitsLt_bf16_f32 := by
  show StableHlo.after hostOps0 (Exchange.V₀ m c) (Proc.devRef .tc main_v2) = _
  after_results

/-- If every device holds its blocks of `A` and `B`, its result is its block of their product. -/
theorem total_eq (A : FVec Ideal ⟨2, ![4096, 4096]⟩ .bf16) (B : FVec Ideal ⟨2, ![4096, 8192]⟩ .bf16)
    (hA : ∀ c : Dev nD, m ((c : Thread nD τ).loc main_arg0)
      = Layout.blockN ⟨2, ![4096, 2048]⟩ ⟨2, ![4096, 4096]⟩ (Layout.meshBlock [2, 2] ![[], [0]] c) A (by decide))
    (hB : ∀ c : Dev nD, m ((c : Thread nD τ).loc main_arg1)
      = Layout.blockN ⟨2, ![2048, 4096]⟩ ⟨2, ![4096, 8192]⟩ (Layout.meshBlock [2, 2] ![[0], [1]] c) B (by decide))
    (c : Dev nD) :
    total m c = Layout.blockN ⟨2, ![4096, 4096]⟩ ⟨2, ![4096, 8192]⟩ (Layout.meshBlock [2, 2] ![[], [1]] c)
      (truncf .bf16 (Host.dotGeneral ReferenceIdeal.dot_S4096x4096_S4096x8192_S4096x8192_1_0_0_1_n_n none A B) bitsLt_bf16_f32) (by decide) := by
  have hp (d : Dev nD) (r l : Fin 4096) : part m d (ix2 r l) = strip A B (strand d) r (across (side d) l) := by
    rw [part_eq, hA, hB]
    exact local_strip A B d r l
  funext j
  obtain ⟨r, l, rfl⟩ : ∃ r l, j = ix2 r l := ⟨j 0, j 1, eq_ix2 j⟩
  refine Eq.trans ?_ (result_block _ c r l).symm
  refine Eq.trans ?_ (product_strips A B r (across (side c) l)).symm
  show HAdd.hAdd (α := EReal) (β := EReal) (part m c (ix2 r l)) (part m (mate c) (ix2 r l)) = _
  rw [hp, hp, side_mate]
  exact strips_meet A B c r _

end Cert.KernelIdeal.Strips

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at machine floats: it runs, its arguments are unchanged, every counter ends at zero. Its text is
    the ideal kernel's, whose run is proved for any float values. -/
theorem frame_kernel : Cert.quiescent_Kernel := fun m ρ _ =>
  (θ_run Cert.KernelIdeal.defs _ _).mono (fun _ h => ⟨fun c => (h.1 c).2, h.2⟩)
    (Cert.KernelIdeal.Exchange.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩)
    (Cert.KernelIdeal.Exchange.run_main (F := Ideal) m ρ)

/-- The reference runs and keeps its arguments; it has no semaphores to leave charged. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- Each device's result is its block of columns of the reference's product. -/
theorem value : Cert.algebraic_KernelIdeal_ReferenceIdeal := fun m ρ m' ρ' _ hm =>
  ⟨_, (θ_run Cert.KernelIdeal.defs _ _).mono
      (fun _ h c => ⟨(h.1 c).1.trans
        (Cert.KernelIdeal.Strips.total_eq m _ _ (fun d => (hm d).1) (fun d => (hm d).2) c), (h.1 c).2⟩)
      (Cert.KernelIdeal.Exchange.run_main (F := Ideal) m ρ),
    (θ_run Cert.ReferenceIdeal.defs _ _).mono (fun _ h => h 0) (Cert.ReferenceIdeal.Value.run (F := Ideal) m' ρ')⟩

/-- The five claims together. -/
theorem claim : Cert.Claim := ⟨Cert.Kernel.Gen.facts, Cert.KernelIdeal.Gen.facts, Cert.ReferenceIdeal.Gen.facts,
  frame_kernel, frame_ideal, frame_reference, trivial, value⟩

end Cert.Proof

end
